-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4096x128 : Shape := ⟨2, ![4096, 128]⟩
abbrev S100000x128 : Shape := ⟨2, ![100000, 128]⟩
abbrev S_ : Shape := ⟨0, ![]⟩

class Facts : Prop where
  bcast_S_S4096x128 : S_.BroadcastsInDim S4096x128 (![] : Fin 0 → Fin S4096x128.rank)
  bcast_S_S100000x128 : S_.BroadcastsInDim S100000x128 (![] : Fin 0 → Fin S100000x128.rank)

variable [Facts]

def fn {F : FTy → Type} [FloatOps F] (main_arg0 : FVec F S4096x128 .f32) (main_arg1 : FVec F S100000x128 .f32) : IVec S4096x128 1 × IVec S100000x128 1 :=
  let main_v0 : FVec F S4096x128 .f32 := Host.absf main_arg0
  let main_cst : FVec F S_ .f32 := constant S_ .f32 0x45505000#32
  let main_v1 : FVec F S4096x128 .f32 := broadcastInDim S4096x128 ![] bcast_S_S4096x128 main_cst
  let main_v2 : IVec S4096x128 1 := cmpf .ole main_v0 main_v1
  let main_v3 : FVec F S100000x128 .f32 := Host.absf main_arg1
  let main_cst_0 : FVec F S_ .f32 := constant S_ .f32 0x45505000#32
  let main_v4 : FVec F S100000x128 .f32 := broadcastInDim S100000x128 ![] bcast_S_S100000x128 main_cst_0
  let main_v5 : IVec S100000x128 1 := cmpf .ole main_v3 main_v4
  (main_v2, main_v5)
-- ==== Kernel.lean ====
abbrev S4096x128 : Shape := ⟨2, ![4096, 128]⟩
abbrev S100000x128 : Shape := ⟨2, ![100000, 128]⟩
abbrev S_ : Shape := ⟨0, ![]⟩
abbrev S100352x128 : Shape := ⟨2, ![100352, 128]⟩
abbrev S4096x100352 : Shape := ⟨2, ![4096, 100352]⟩
abbrev S256x128 : Shape := ⟨2, ![256, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1x1024 : Shape := ⟨2, ![1, 1024]⟩
abbrev S4096x100 : Shape := ⟨2, ![4096, 100]⟩

abbrev nBuf : Space → Nat
  | .hbm => 10
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S_, .f32⟩
  | .hbm, ⟨3, _⟩ => ⟨S_, .f32⟩
  | .hbm, ⟨4, _⟩ => ⟨S100352x128, .f32⟩
  | .hbm, ⟨5, _⟩ => ⟨S4096x100352, .f32⟩
  | .hbm, ⟨6, _⟩ => ⟨S4096x100352, .f32⟩
  | .hbm, ⟨7, _⟩ => ⟨S4096x100, .f32⟩
  | .hbm, ⟨8, _⟩ => ⟨S4096x100, .i32⟩
  | .hbm, ⟨9, _⟩ => ⟨S4096x100, .f32⟩
  | .local _ .vmem, ⟨0, _⟩ => ⟨S256x128, .f32⟩
  | .local _ .vmem, ⟨1, _⟩ => ⟨S256x128, .f32⟩
  | .local _ .vmem, ⟨2, _⟩ => ⟨S1024x128, .f32⟩
  | .local _ .vmem, ⟨3, _⟩ => ⟨S1024x128, .f32⟩
  | .local _ .vmem, ⟨4, _⟩ => ⟨S256x1024, .f32⟩
  | .local _ .vmem, ⟨5, _⟩ => ⟨S256x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 98], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4096x128 : Shape := ⟨2, ![4096, 128]⟩
abbrev S100000x128 : Shape := ⟨2, ![100000, 128]⟩
abbrev S_ : Shape := ⟨0, ![]⟩
abbrev S4096 : Shape := ⟨1, ![4096]⟩
abbrev S4096x1 : Shape := ⟨2, ![4096, 1]⟩
abbrev S100000 : Shape := ⟨1, ![100000]⟩
abbrev S1x100000 : Shape := ⟨2, ![1, 100000]⟩
abbrev S128x100000 : Shape := ⟨2, ![128, 100000]⟩
abbrev S4096x100000 : Shape := ⟨2, ![4096, 100000]⟩
abbrev S4096x100 : Shape := ⟨2, ![4096, 100]⟩

abbrev nBuf : Space → Nat
  | .hbm => 26
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S128x100000, .f32⟩
  | .hbm, ⟨11, _⟩ => ⟨S4096x100000, .f32⟩
  | .hbm, ⟨12, _⟩ => ⟨S_, .f32⟩
  | .hbm, ⟨13, _⟩ => ⟨S4096x100000, .f32⟩
  | .hbm, ⟨14, _⟩ => ⟨S4096x100000, .f32⟩
  | .hbm, ⟨15, _⟩ => ⟨S4096x100000, .f32⟩
  | .hbm, ⟨16, _⟩ => ⟨S4096x100000, .f32⟩
  | .hbm, ⟨17, _⟩ => ⟨S4096x100000, .f32⟩
  | .hbm, ⟨18, _⟩ => ⟨S4096x100000, .f32⟩
  | .hbm, ⟨19, _⟩ => ⟨S_, .f32⟩
  | .hbm, ⟨20, _⟩ => ⟨S4096x100000, .f32⟩
  | .hbm, ⟨21, _⟩ => ⟨S4096x100000, .f32⟩
  | .hbm, ⟨22, _⟩ => ⟨S4096x100000, .f32⟩
  | .hbm, ⟨23, _⟩ => ⟨S4096x100, .f32⟩
  | .hbm, ⟨24, _⟩ => ⟨S4096x100, .i32⟩
  | .hbm, ⟨25, _⟩ => ⟨S4096x100, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Gap.lean ====
/- The scaled squared distance of two rows of 128 extended reals, in the expanded form both programs compute; what one
   block of the kernel holds; what the reference's whole matrix holds. -/
module

public import proofs.«01_k».proof.Proof.Gen.KernelIdeal.Skeleton
public import proofs.«01_k».proof.Proof.Gen.ReferenceIdeal
public import Idealize.ShloMosaic.Lib.Pointwise
public import Idealize.ShloMosaic.Lib.IdealHost

@[expose] public section

noncomputable section

namespace Cert.Gap

open Idealize.ShloMosaic

/-- `(|u|² − 2 u·v + |v|²) / 128`. -/
def gap (u v : Fin 128 → EReal) : EReal :=
  (∑ k, u k * u k - ((2 : ℝ) : EReal) * ∑ k, u k * v k + ∑ k, v k * v k) * ((1 / 128 : ℝ) : EReal)

/-- The word `0x40000000` is two. -/
theorem ofBits_two : Ideal.ofBits .f32 0x40000000#32 = ((2 : ℝ) : EReal) := by
  simp [Ideal.ofBits, Ideal.ieee, -EReal.coe_mul]; norm_num

/-- The word `0x3C000000` is one part in 128. -/
theorem ofBits_inv128 : Ideal.ofBits .f32 0x3C000000#32 = ((1 / 128 : ℝ) : EReal) := by
  simp [Ideal.ofBits, Ideal.ieee, -EReal.coe_mul]; norm_num

/-- The word `0x43000000` is 128. -/
theorem ofBits_128 : Ideal.ofBits .f32 0x43000000#32 = ((128 : ℝ) : EReal) := by
  simp [Ideal.ofBits, Ideal.ieee, -EReal.coe_mul]; norm_num

/-- The word `0x461C4000` is ten thousand. -/
theorem ofBits_pad : Ideal.ofBits .f32 0x461C4000#32 = ((10000 : ℝ) : EReal) := by
  simp [Ideal.ofBits, Ideal.ieee, -EReal.coe_mul]; norm_num

/-- The word `0x45505000` is 3333. -/
theorem ofBits_bound : Ideal.ofBits .f32 0x45505000#32 = ((3333 : ℝ) : EReal) := by
  simp [Ideal.ofBits, Ideal.ieee, -EReal.coe_mul]; norm_num

/-- Entry `(r, l)` of a block: the distance of row `r` of the queries' block and row `l` of the table's. -/
theorem pay_apply (x : Vec Ideal Cert.KernelIdeal.S256x128 .f32) (d : Vec Ideal Cert.KernelIdeal.S1024x128 .f32)
    (r : Fin 256) (l : Fin 1024) :
    Cert.KernelIdeal.Gen.k0_pay1 x d (ix2 r l) = gap (fun k => x (ix2 r k)) (fun k => d (ix2 l k)) := by
  pointwise [Cert.KernelIdeal.Gen.k0_pay1]
  rw [ofBits_two, ofBits_inv128]
  rfl

section Reference
open Cert.ReferenceIdeal Cert.ReferenceIdeal.Gen

/-- The reference's matrix of distances, as its operations compose it from the two arguments. -/
def refMat (x : FVec Ideal S4096x128 .f32) (d : FVec Ideal S100000x128 .f32) : FVec Ideal S4096x100000 .f32 :=
  Host.divf (addf (subf (broadcastInDim S4096x100000 ![0, 1] bcast_S4096x1_S4096x100000_0_1 (broadcastInDim S4096x1 ![0] bcast_S4096_S4096x1_0 (Host.reduceAdd (mulf x x) (constant S_ .f32 0x00000000#32) reducesTo_S4096x128_S4096_d1 h_S_))) (mulf (broadcastInDim S4096x100000 ![] bcast_S_S4096x100000 (constant S_ .f32 0x40000000#32)) (Host.dotGeneral dot_S4096x128_S128x100000_S4096x100000_1_0_0_1_n_n none x (transpose S128x100000 [1, 0] d transposes_S100000x128_S128x100000_1_0)))) (broadcastInDim S4096x100000 ![0, 1] bcast_S1x100000_S4096x100000_0_1 (broadcastInDim S1x100000 ![1] bcast_S100000_S1x100000_1 (Host.reduceAdd (mulf d d) (constant S_ .f32 0x00000000#32) reducesTo_S100000x128_S100000_d1 h_S_)))) (broadcastInDim S4096x100000 ![] bcast_S_S4096x100000 (constant S_ .f32 0x43000000#32))

/-- Entry `(r, l)` of the reference's matrix: the distance of query `r` and table row `l`. -/
theorem refMat_apply (x : FVec Ideal S4096x128 .f32) (d : FVec Ideal S100000x128 .f32) (r : Fin 4096) (l : Fin 100000) :
    refMat x d (ix2 r l) = gap (fun k => x (ix2 r k)) (fun k => d (ix2 l k)) := by
  pointwise [refMat]
  rw [ofBits_two, ofBits_128, Ideal.div_coe (by norm_num)]
  rfl

end Reference

/-! ## On bounded rows -/

/-- On rows of reals the expanded form is the mean of the squared differences. -/
theorem gap_coe (a b : Fin 128 → ℝ) :
    gap (fun k => (a k : EReal)) (fun k => (b k : EReal)) = (((∑ k, (a k - b k) ^ 2) * (1 / 128) : ℝ) : EReal) := by
  have e (f : Fin 128 → ℝ) : ∑ k, (f k : EReal) = ((∑ k, f k : ℝ) : EReal) :=
    (map_sum (⟨⟨Real.toEReal, EReal.coe_zero⟩, EReal.coe_add⟩ : ℝ →+ EReal) f Finset.univ).symm
  unfold gap
  simp only [← EReal.coe_mul, e, ← EReal.coe_sub, ← EReal.coe_add]
  congr 2
  rw [Finset.mul_sum, ← Finset.sum_sub_distrib, ← Finset.sum_add_distrib]
  exact Finset.sum_congr rfl fun k _ => by ring

/-- An extended real whose absolute value is at most 3333 is a real of that size. -/
theorem real_of_bounded {x : EReal} (h : max x (-x) ≤ ((3333 : ℝ) : EReal)) : ∃ a : ℝ, x = a ∧ |a| ≤ 3333 := by
  induction x with
  | bot => exact absurd (le_trans (le_max_right _ _) h) (by simp)
  | top => exact absurd (le_trans (le_max_left _ _) h) (by simp)
  | coe a =>
    refine ⟨a, rfl, abs_le'.mpr ⟨?_, ?_⟩⟩
    · exact EReal.coe_le_coe_iff.mp (le_trans (le_max_left _ _) h)
    · exact EReal.coe_le_coe_iff.mp (by rw [EReal.coe_neg]; exact le_trans (le_max_right _ _) h)

/-- A bounded query is no farther from a bounded table row than from a row of ten thousands. -/
theorem gap_le_pad (u v : Fin 128 → EReal) (hu : ∀ k, max (u k) (-(u k)) ≤ ((3333 : ℝ) : EReal))
    (hv : ∀ k, max (v k) (-(v k)) ≤ ((3333 : ℝ) : EReal)) :
    gap u v ≤ gap u (fun _ => ((10000 : ℝ) : EReal)) := by
  choose a ha ha' using fun k => real_of_bounded (hu k)
  choose b hb hb' using fun k => real_of_bounded (hv k)
  obtain rfl : u = fun k => (a k : EReal) := funext ha
  obtain rfl : v = fun k => (b k : EReal) := funext hb
  rw [gap_coe, gap_coe]
  refine EReal.coe_le_coe_iff.mpr (mul_le_mul_of_nonneg_right (Finset.sum_le_sum fun k _ => ?_) (by norm_num))
  have h1 := abs_le.mp (ha' k)
  have h2 := abs_le.mp (hb' k)
  show (a k - b k) ^ 2 ≤ (a k - 10000) ^ 2
  rw [show (a k - 10000) ^ 2 = (10000 - a k) ^ 2 by ring]
  exact sq_le_sq' (by linarith) (by linarith)

end Cert.Gap

end
-- ==== Proof.KernelValue.lean ====
/-
  What the kernel's distance array holds at the end of the run: entry (r, l) is the scaled squared distance of query row
  r and row l of the table the region reads. Each grid point writes one 256 by 1024 tile of that matrix, and the tiles
  cover it. Then what the lines before the region put in the table, and what the lines after it make of the array.
-/
module

public import proofs.«01_k».proof.Proof.Gen.KernelIdeal.Frame
public import proofs.«01_k».proof.Proof.Gap
public import Idealize.ShloMosaic.Lib.Pipeline.Value
public import Idealize.ShloMosaic.Lib.Pipeline.Covers
public import Idealize.ShloMosaic.Lib.KernelVsHost
public import Idealize.ShloMosaic.Lib.StableHlo.RunRead

@[expose] public section

set_option maxRecDepth 16384

noncomputable section

namespace Cert.KernelIdeal.Dist

open Idealize.ShloMosaic Idealize.ShloMosaic.TcCoe Idealize.SL.Sem
open Idealize.ShloMosaic.Pipeline (Dat)
open Cert.KernelIdeal Cert.KernelIdeal.Gen Cert.Gap

variable (m : (ℓ : Loc nD τ sig) → Buf (Elt Ideal) ℓ) (ρ : Dev nD → PrngReg)

/-- The zero offsets of a rank-two buffer. -/
theorem hz : (![0, 0] : Fin 2 → Nat) = fun _ => 0 := funext fun a => by fin_cases a <;> rfl

/-- The matrix of scaled squared distances of the rows of `x` and the rows of `d`. -/
def table (x : FVec Ideal S4096x128 .f32) (d : FVec Ideal S100352x128 .f32) : FVec Ideal S4096x100352 .f32 :=
  fun i => gap (fun k => x (ix2 (i 0) k)) (fun k => d (ix2 (i 1) k))

/-- What every point writes back is its tile of the distance matrix of the arrays the region finds. -/
theorem flushed_eq (c : Dev nD) (t : Fin cfg0.N) :
    (dats m 0 c).flushed 2 t = (win0_2.blk t).view.read (Elt Ideal) (table (V m c main_arg0) (V m c main_v0)) := by
  show (cfg0.win 2).cut (grid0.coords t) ((dats m 0 c).after 2 t) = _
  rw [after0_2]
  unfold out0_2
  rw [View.canon_unit_zero hz, View.ld_unit_zero hz, View.ld_unit_zero hz]
  funext y
  obtain ⟨r, l, rfl⟩ : ∃ (r : Fin 256) (l : Fin 1024), y = ix2 r l := ⟨y 0, y 1, eq_ix2 y⟩
  show k0_pay1 (iblk m c 0 t) (iblk m c 1 t) (ix2 r l) = _
  rw [pay_apply, View.read_apply]
  show _ = table (V m c main_arg0) (V m c main_v0) ((win0_2.rect t).emb (ix2 r l))
  unfold table
  congr 1
  · funext k
    unfold iblk
    rw [View.read_apply]
    show V m c main_arg0 ((win0_0.rect t).emb (ix2 r k)) = _
    congr 1
    funext a
    apply Fin.ext
    match a with
    | ⟨0, _⟩ => exact (win0_0.rect_emb_val t (ix2 r k) 0).trans (win0_2.rect_emb_val t (ix2 r l) 0).symm
    | ⟨1, _⟩ => exact win0_0.rect_emb_val_of_index_zero t 1 rfl (ix2 r k)
  · funext k
    unfold iblk
    rw [View.read_apply]
    show V m c main_v0 ((win0_1.rect t).emb (ix2 l k)) = _
    congr 1
    funext a
    apply Fin.ext
    match a with
    | ⟨0, _⟩ => exact (win0_1.rect_emb_val t (ix2 l k) 0).trans (win0_2.rect_emb_val t (ix2 r l) 1).symm
    | ⟨1, _⟩ => exact win0_1.rect_emb_val_of_index_zero t 1 rfl (ix2 l k)

/-- Every entry of the distance array lies in the tile of some point. -/
theorem cover (i : S4096x100352.Idx) : ∃ t : Fin cfg0.N, (cfg0.win 2).flush t = true ∧ i ∈ ((cfg0.win 2).blk t).view.set := by
  have h0 : (i 0 : Nat) < 4096 := (i 0).isLt
  have h1 : (i 1 : Nat) < 100352 := (i 1).isLt
  obtain ⟨t, ht⟩ := grid0.coords_surjective (fun a => match a with
    | ⟨0, _⟩ => (⟨(i 0 : Nat) / 256, by show _ < 16; omega⟩ : Fin 16)
    | ⟨1, _⟩ => (⟨(i 1 : Nat) / 1024, by show _ < 98; omega⟩ : Fin 98))
  have e0 : win0_2.index t 0 = (i 0 : Nat) / 256 := by
    show (BitVec.ofNat 32 (grid0.coords t 0)).toNat = _
    rw [ht]
    show ((i 0 : Nat) / 256) % 2 ^ 32 = _
    omega
  have e1 : win0_2.index t 1 = (i 1 : Nat) / 1024 := by
    show (BitVec.ofNat 32 (grid0.coords t 1)).toNat = _
    rw [ht]
    show ((i 1 : Nat) / 1024) % 2 ^ 32 = _
    omega
  refine ⟨t, flush0_2 t, ?_⟩
  show i ∈ ((View.whole main_v1).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256
              rw [e0]; omega
  | ⟨1, _⟩ => show win0_2.index t 1 * 1024 ≤ (i 1 : Nat) ∧ (i 1 : Nat) < win0_2.index t 1 * 1024 + 1024
              rw [e1]; omega

/-- So the distance array ends holding the distance matrix of the arrays the region finds. -/
theorem final (c : Dev nD) : (dats m 0 c).arrAt 2 cfg0.N = table (V m c main_arg0) (V m c main_v0) :=
  (dats m 0 c).arrAt_eq_of_cover 2 (table (V m c main_arg0) (V m c main_v0)) (fun t _ => flushed_eq m c t) cover

/-- The table the region reads: the database with 352 further rows whose every entry is the padding constant. -/
def padded (d : FVec Ideal S100000x128 .f32) : FVec Ideal S100352x128 .f32 :=
  pad S100352x128 ![0, 0] ![352, 0] ![0, 0] d (constant (F := Ideal) S_ .f32 0x461C4000#32)
    pads_S100000x128_S100352x128_03520_000 h_S_

/-- The lines before the region leave the padded database in the table it reads. -/
theorem V_main_v0 (c : Dev nD) : V m c main_v0 = padded (m ((c : Thread nD τ).loc main_arg1)) := by
  show StableHlo.after (List.flatten [hostOps0, hostOps0_1]) (fun b => m (c, b)) (Proc.devRef .tc main_v0) = _
  unfold hostOps0 hostOps0_1
  simp only [List.flatten_cons, List.flatten_nil, List.append_nil, List.cons_append, List.nil_append]
  after_results
  rfl

/-- A row of the padded table below 100000 is the database's row. -/
theorem padded_low (d : FVec Ideal S100000x128 .f32) (p : Fin 100000) (k : Fin 128) :
    padded d (ix2 (Fin.castAdd 352 p) k) = d (ix2 p k) := by
  unfold padded
  refine pad_apply_of_inside _ _ _ d _ _ _ _ (ix2 p k) fun a => ?_
  match a with
  | ⟨0, _⟩ => show (p : Nat) = 0 + (p : Nat) * (0 + 1); omega
  | ⟨1, _⟩ => show (k : Nat) = 0 + (k : Nat) * (0 + 1); omega

/-- A row of the padded table from 100000 on holds 10000 everywhere. -/
theorem padded_high (d : FVec Ideal S100000x128 .f32) (q : Fin 352) (k : Fin 128) :
    padded d (ix2 (Fin.natAdd 100000 q) k) = ((10000 : ℝ) : EReal) := by
  unfold padded
  rw [pad_apply_of_not_inside _ _ _ d _ _ _ _ 0]
  · exact ofBits_pad
  · show ¬(0 ≤ 100000 + (q : Nat) ∧ (100000 + (q : Nat) - 0) % (0 + 1) = 0 ∧ (100000 + (q : Nat) - 0) / (0 + 1) < 100000)
    omega

/-- The best hundred of each row of the negated matrix: their values and their columns. -/
abbrev best (w : FVec Ideal S4096x100352 .f32) :=
  Host.topK S4096x100 1 (FloatOps.cmpfTotal (F := Ideal) (φ := .f32) .gt) (Host.negf w) sliceFits_S4096x100352_S4096x100

/-- What the region leaves in the distance array, as the lines after it read it. -/
theorem left_main_v1 (c : Dev nD) :
    Pipeline.withArrays (cfgs 0).spec c (V0 m c) (fun w => (dats m 0 c).arrAt w (cfgs 0).N) (Proc.devRef .tc main_v1)
      = table (V m c main_arg0) (V m c main_v0) :=
  (Pipeline.withArrays_arr (cfgs 0).spec launch0.win.arr_inj c (V0 m c) _ 2).trans (final m c)

/-- The lines after the region leave the values of the best hundred, negated back, in the first result. -/
theorem tail_main_v3 (c : Dev nD) : Pipeline.afterTail₀ cfgs (dats m) 0 (V0 m) [hostOps1] c main_v3
    = Host.negf (best (table (V m c main_arg0) (V m c main_v0))).1 := by
  unfold Pipeline.afterTail₀
  have h := left_main_v1 m c
  generalize Pipeline.withArrays (cfgs 0).spec c (V0 m c) (fun w => (dats m 0 c).arrAt w (cfgs 0).N) = W at h ⊢
  rw [← h]
  unfold hostOps1
  simp only [List.flatten_cons, List.flatten_nil, List.append_nil]
  after_results

/-- The lines after the region leave the columns of the best hundred in the second result. -/
theorem tail_main_indices (c : Dev nD) : Pipeline.afterTail₀ cfgs (dats m) 0 (V0 m) [hostOps1] c main_indices
    = (best (table (V m c main_arg0) (V m c main_v0))).2 := by
  unfold Pipeline.afterTail₀
  have h := left_main_v1 m c
  generalize Pipeline.withArrays (cfgs 0).spec c (V0 m c) (fun w => (dats m 0 c).arrAt w (cfgs 0).N) = W at h ⊢
  rw [← h]
  unfold hostOps1
  simp only [List.flatten_cons, List.flatten_nil, List.append_nil]
  after_results

/-- The distance matrix of a run from memory `m` on core `c`: the queries' rows against the padded database's. -/
abbrev result (c : Dev nD) : FVec Ideal S4096x100352 .f32 :=
  table (m ((c : Thread nD τ).loc main_arg0)) (padded (m ((c : Thread nD τ).loc main_arg1)))

/-- The kernel's run, read: the first result holds the values of the best hundred of every row, the second their
    columns, and the arguments are unchanged. -/
theorem run : θ_run defs (onTc (τ := τ) (main (F := Ideal))) ⟨m, fun _ => 0, ρ⟩ fun r => ∀ c : Dev nD,
      r.2.mem ((c : Thread nD τ).loc main_v3) = Host.negf (best (result m c)).1
      ∧ r.2.mem ((c : Thread nD τ).loc main_indices) = (best (result m c)).2
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    have e : table (V m c main_arg0) (V m c main_v0) = result m c := by rw [V_main_arg0, V_main_v0]
    exact ⟨((h c).2 main_v3 (Pipeline.mem_restRefs_of main_v3 (by decide) (by decide))).trans ((tail_main_v3 m c).trans (by rw [e])),
      ((h c).2 main_indices (Pipeline.mem_restRefs_of main_indices (by decide) (by decide))).trans
        ((tail_main_indices m c).trans (by rw [e])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Dist

end
-- ==== Proof.TopPrefix.lean ====
/- The greatest entries of a row that was extended by more entries, none of which is greater than an entry the row had
   before: they are the greatest entries of the row before it was extended, in the same order, at the same positions.
   The sort behind `Host.topK` is stable, so an added entry that ties with an old one also comes after it. -/
module

public import Idealize.ShloMosaic.PureOps
public import Idealize.ShloMosaic.Lib.ValueIdx

@[expose] public section

namespace Cert.TopPrefix

open Idealize.ShloMosaic Idealize.ShloMosaic.ValueIdx

section Lists
variable {ι κ : Type}

/-- Inserting an element in front of a tail that holds nothing sorting strictly before it stays within the head. -/
theorem insertBefore_append (R : ι → ι → Bool) (a : ι) (p : List ι) (hp : ∀ b ∈ p, R b a = false) (l : List ι) :
    insertBefore R a (l ++ p) = insertBefore R a l ++ p := by
  induction l with
  | nil =>
    cases p with
    | nil => rfl
    | cons b p => simp [insertBefore, hp b List.mem_cons_self]
  | cons c l ih =>
    simp only [List.cons_append, insertBefore]
    split <;> simp [ih]

/-- The members of a sorted list are the members of the list. -/
theorem mem_insertBefore (R : ι → ι → Bool) (a b : ι) (l : List ι) (h : b ∈ insertBefore R a l) : b = a ∨ b ∈ l := by
  induction l with
  | nil => simpa [insertBefore] using h
  | cons c l ih =>
    simp only [insertBefore] at h
    split at h
    · rcases List.mem_cons.mp h with h | h
      · exact .inr (h ▸ List.mem_cons_self)
      · exact (ih h).imp_right (List.mem_cons_of_mem c)
    · exact List.mem_cons.mp h

/-- A member of the stable sort of a list is a member of the list. -/
theorem mem_stableSort (R : ι → ι → Bool) (b : ι) (l : List ι) (h : b ∈ stableSort R l) : b ∈ l := by
  induction l with
  | nil => simp [stableSort] at h
  | cons a l ih =>
    rcases mem_insertBefore R a b _ h with h | h
    · exact h ▸ List.mem_cons_self
    · exact List.mem_cons_of_mem a (ih h)

/-- When nothing in `p` sorts strictly before anything in `l`, the stable sort of `l ++ p` is that of `l` followed by
    that of `p`. -/
theorem stableSort_append (R : ι → ι → Bool) (l p : List ι) (h : ∀ a ∈ l, ∀ b ∈ p, R b a = false) :
    stableSort R (l ++ p) = stableSort R l ++ stableSort R p := by
  induction l with
  | nil => rfl
  | cons a l ih =>
    simp only [List.cons_append, stableSort]
    rw [ih fun c hc => h c (List.mem_cons_of_mem a hc)]
    exact insertBefore_append R a _ (fun b hb => h a List.mem_cons_self b (mem_stableSort R b p hb)) _

/-- Inserting commutes with a map that carries one order to the other. -/
theorem insertBefore_map (R : ι → ι → Bool) (Q : κ → κ → Bool) (f : ι → κ) (hf : ∀ a b, Q (f a) (f b) = R a b) (a : ι)
    (l : List ι) : insertBefore Q (f a) (l.map f) = (insertBefore R a l).map f := by
  induction l with
  | nil => rfl
  | cons b l ih =>
    simp only [List.map_cons, insertBefore, hf]
    split <;> simp [ih]

/-- Sorting commutes with a map that carries one order to the other. -/
theorem stableSort_map (R : ι → ι → Bool) (Q : κ → κ → Bool) (f : ι → κ) (hf : ∀ a b, Q (f a) (f b) = R a b)
    (l : List ι) : stableSort Q (l.map f) = (stableSort R l).map f := by
  induction l with
  | nil => rfl
  | cons a l ih =>
    simp only [List.map_cons, stableSort]
    rw [ih, insertBefore_map R Q f hf]

end Lists

/-- The positions below `n + d` are those below `n`, then the `d` from `n` on. -/
theorem finRange_split (n d : Nat) :
    List.finRange (n + d) = (List.finRange n).map (Fin.castAdd d) ++ (List.finRange d).map (Fin.natAdd n) := by
  refine List.ext_getElem (by simp) fun i h1 h2 => ?_
  rw [List.getElem_append]
  split
  · simp
  · rename_i h
    simp only [List.length_map, List.length_finRange, not_lt] at h
    apply Fin.ext
    simp only [List.getElem_finRange, List.getElem_map, Fin.val_cast, Fin.natAdd, List.length_map, List.length_finRange]
    omega

/-- The stable sorting permutation of `n + d` positions, none of the last `d` strictly before any of the first `n`, is
    on its first `n` places the one of the first `n` positions. -/
theorem sortedFrom_castAdd {n d : Nat} (Q : Fin (n + d) → Fin (n + d) → Bool) (R : Fin n → Fin n → Bool)
    (hf : ∀ a b, Q (Fin.castAdd d a) (Fin.castAdd d b) = R a b)
    (hlow : ∀ a b, Q (Fin.natAdd n b) (Fin.castAdd d a) = false) (i : Fin n) :
    sortedFrom Q (Fin.castAdd d i) = Fin.castAdd d (sortedFrom R i) := by
  have e : sortPositions (n + d) Q
      = (sortPositions n R).map (Fin.castAdd d) ++ stableSort Q ((List.finRange d).map (Fin.natAdd n)) := by
    unfold sortPositions
    rw [finRange_split, stableSort_append, stableSort_map R Q _ hf]
    intro a ha b hb
    obtain ⟨a, -, rfl⟩ := List.mem_map.mp ha
    obtain ⟨b, -, rfl⟩ := List.mem_map.mp hb
    exact hlow a b
  unfold sortedFrom
  simp only [List.get_eq_getElem, Fin.val_cast, e]
  rw [List.getElem_append_left (by rw [List.length_map, length_sortPositions]; exact i.isLt), List.getElem_map]
  rfl

/-- A rank-2 index with its second coordinate replaced. -/
theorem along_ix2 {m n : Nat} (a : Fin m) (b c : Fin n) :
    Shape.Idx.along (s := ⟨2, ![m, n]⟩) (ix2 a b) 1 c = ix2 a c := by
  funext x
  match x with
  | ⟨0, _⟩ => exact Function.update_of_ne (fun h => Nat.zero_ne_one (congrArg Fin.val h)) _ _
  | ⟨1, _⟩ => exact Function.update_self _ _ _

/-- `Host.topK` along the second axis of a matrix, read at an entry: the value and the position the stable sort of the
    row puts there. -/
theorem topK_apply {α : Type} {m n k : Nat} (gt : α → α → BitVec 1) (x : (⟨2, ![m, n]⟩ : Shape).Idx → α)
    (h : (⟨2, ![m, n]⟩ : Shape).Slices (fun _ => 0) ⟨2, ![m, k]⟩) (hk : k ≤ n) (a : Fin m) (b : Fin k) :
    (Host.topK ⟨2, ![m, k]⟩ 1 gt x h).1 (ix2 a b)
        = x (ix2 a (sortedFrom (fun p q => gt (x (ix2 a p)) (x (ix2 a q)) == 1#1) (b.castLE hk)))
      ∧ (Host.topK ⟨2, ![m, k]⟩ 1 gt x h).2 (ix2 a b)
        = BitVec.ofNat 32 (sortedFrom (fun p q => gt (x (ix2 a p)) (x (ix2 a q)) == 1#1) (b.castLE hk)).val := by
  have e (A : Type) (y : (⟨2, ![m, n]⟩ : Shape).Idx → A) :
      extractStridedSlice ⟨2, ![m, k]⟩ (fun _ => 0) y h (ix2 a b) = y (ix2 a (b.castLE hk)) := by
    unfold extractStridedSlice
    refine congrArg y (funext fun c => Fin.ext ?_)
    match c with
    | ⟨0, _⟩ => exact Nat.zero_add _
    | ⟨1, _⟩ => exact Nat.zero_add _
  have hlt : 1 < (⟨2, ![m, n]⟩ : Shape).rank := Nat.one_lt_two
  unfold Host.topK Host.sort2
  simp only [dif_pos hlt, e]
  have al (p : Fin n) : Shape.Idx.along (s := ⟨2, ![m, n]⟩) (ix2 a (b.castLE hk)) ⟨1, hlt⟩ p = ix2 a p := along_ix2 a _ p
  have ao : (fun p q : Fin n => gt (x (Shape.Idx.along (s := ⟨2, ![m, n]⟩) (ix2 a (b.castLE hk)) ⟨1, hlt⟩ p))
        (x (Shape.Idx.along (s := ⟨2, ![m, n]⟩) (ix2 a (b.castLE hk)) ⟨1, hlt⟩ q)) == 1#1)
      = fun p q => gt (x (ix2 a p)) (x (ix2 a q)) == 1#1 := by
    funext p q; rw [al, al]
  constructor
  · exact (congrArg x (al _)).trans (congrArg (fun R => x (ix2 a (sortedFrom R (b.castLE hk)))) ao)
  · exact (congrArg (iotaInDim ⟨2, ![m, n]⟩ 32 ⟨1, hlt⟩) (al _)).trans
      (congrArg (fun R => BitVec.ofNat 32 (sortedFrom R (b.castLE hk)).val) ao)

/-- The `k` greatest entries, with their positions, of a matrix's rows and of the same rows followed by `d` more entries
    none of which is greater than an entry of the row proper: the same. -/
theorem topK_extend {α : Type} {m n d k : Nat} (gt : α → α → BitVec 1) (x : (⟨2, ![m, n]⟩ : Shape).Idx → α)
    (y : (⟨2, ![m, n + d]⟩ : Shape).Idx → α)
    (h : (⟨2, ![m, n]⟩ : Shape).Slices (fun _ => 0) ⟨2, ![m, k]⟩)
    (h' : (⟨2, ![m, n + d]⟩ : Shape).Slices (fun _ => 0) ⟨2, ![m, k]⟩) (hk : k ≤ n)
    (hxy : ∀ a p, y (ix2 a (Fin.castAdd d p)) = x (ix2 a p))
    (hlow : ∀ a p q, gt (y (ix2 a (Fin.natAdd n q))) (x (ix2 a p)) ≠ 1#1) :
    Host.topK ⟨2, ![m, k]⟩ 1 gt y h' = Host.topK ⟨2, ![m, k]⟩ 1 gt x h := by
  have s (a : Fin m) (b : Fin k) :
      sortedFrom (fun p q => gt (y (ix2 a p)) (y (ix2 a q)) == 1#1) (b.castLE (hk.trans (Nat.le_add_right n d)))
        = Fin.castAdd d (sortedFrom (fun p q => gt (x (ix2 a p)) (x (ix2 a q)) == 1#1) (b.castLE hk)) := by
    refine sortedFrom_castAdd _ _ (fun p q => ?_) (fun p q => ?_) (b.castLE hk)
    · simp only [hxy]
    · simp only [hxy, beq_eq_false_iff_ne]; exact hlow a p q
  refine Prod.ext (funext fun j => ?_) (funext fun j => ?_)
  · obtain ⟨a, b, rfl⟩ : ∃ (a : Fin m) (b : Fin k), j = ix2 a b := ⟨j 0, j 1, eq_ix2 j⟩
    rw [(topK_apply gt y h' (hk.trans (Nat.le_add_right n d)) a b).1, (topK_apply gt x h hk a b).1, s, hxy]
  · obtain ⟨a, b, rfl⟩ : ∃ (a : Fin m) (b : Fin k), j = ix2 a b := ⟨j 0, j 1, eq_ix2 j⟩
    rw [(topK_apply gt y h' (hk.trans (Nat.le_add_right n d)) a b).2, (topK_apply gt x h hk a b).2, s]
    rfl

end Cert.TopPrefix

end
-- ==== Proof.Equation.lean ====
/-
  The kernel's two results are the reference's wherever every input entry is at most 3333 in absolute value. The kernel
  ranks 352 rows more than the reference, each holding 10000 everywhere; on such inputs no query is closer to one of them
  than to a row of the database, so the best hundred of a row, in order and with their columns, are the same.
-/
module

public import proofs.«01_k».proof.Pre_bounded
public import proofs.«01_k».proof.Proof.KernelValue
public import proofs.«01_k».proof.Proof.TopPrefix
public import proofs.«01_k».proof.Proof.Gen.ReferenceIdeal.Run

@[expose] public section

noncomputable section

namespace Cert.Equation

open Idealize.ShloMosaic Idealize.ShloMosaic.TcCoe Idealize.SL.Sem
open Cert.Gap Cert.KernelIdeal.Dist

/-- The precondition's two broadcasts of one word are well formed. -/
theorem pre_facts : Cert.Pre_bounded.Facts :=
  ⟨⟨fun i _ => i.elim0, fun i => i.elim0⟩, ⟨fun i _ => i.elim0, fun i => i.elim0⟩⟩

/-- A comparison with the bound that came out true says the entry is at most 3333 in absolute value. -/
theorem le_of_word {a : EReal} (h : BitVec.ofBool (decide (max a (-a) ≤ ((3333 : ℝ) : EReal))) = 1#1) :
    max a (-a) ≤ ((3333 : ℝ) : EReal) := by
  by_contra hn
  rw [decide_eq_false hn] at h
  exact absurd h (by decide)

/-- What the precondition says of the queries, entry by entry. -/
theorem bounded_left [Cert.Pre_bounded.Facts] (x : FVec Ideal Cert.Pre_bounded.S4096x128 .f32)
    (d : FVec Ideal Cert.Pre_bounded.S100000x128 .f32) (h : (Cert.Pre_bounded.fn x d).1 = fun _ => 1#1)
    (r : Fin 4096) (k : Fin 128) : max (x (ix2 r k)) (-(x (ix2 r k))) ≤ ((3333 : ℝ) : EReal) := by
  refine le_of_word ?_
  rw [← ofBits_bound]
  exact congrFun h (ix2 r k)

/-- What the precondition says of the database, entry by entry. -/
theorem bounded_right [Cert.Pre_bounded.Facts] (x : FVec Ideal Cert.Pre_bounded.S4096x128 .f32)
    (d : FVec Ideal Cert.Pre_bounded.S100000x128 .f32) (h : (Cert.Pre_bounded.fn x d).2 = fun _ => 1#1)
    (l : Fin 100000) (k : Fin 128) : max (d (ix2 l k)) (-(d (ix2 l k))) ≤ ((3333 : ℝ) : EReal) := by
  refine le_of_word ?_
  rw [← ofBits_bound]
  exact congrFun h (ix2 l k)

/-- The best hundred of each row of the negated reference matrix. -/
abbrev refBest (x : FVec Ideal Cert.ReferenceIdeal.S4096x128 .f32) (d : FVec Ideal Cert.ReferenceIdeal.S100000x128 .f32) :=
  Host.topK Cert.ReferenceIdeal.S4096x100 1 (FloatOps.cmpfTotal (F := Ideal) (φ := .f32) .gt) (Host.negf (refMat x d))
    Cert.ReferenceIdeal.Gen.facts.sliceFits_S4096x100000_S4096x100

/-- On bounded inputs the best hundred of the kernel's padded matrix are the best hundred of the reference's. -/
theorem best_eq (x : FVec Ideal Cert.ReferenceIdeal.S4096x128 .f32) (d : FVec Ideal Cert.ReferenceIdeal.S100000x128 .f32)
    (hx : ∀ (r : Fin 4096) (k : Fin 128), max (x (ix2 r k)) (-(x (ix2 r k))) ≤ ((3333 : ℝ) : EReal))
    (hd : ∀ (l : Fin 100000) (k : Fin 128), max (d (ix2 l k)) (-(d (ix2 l k))) ≤ ((3333 : ℝ) : EReal)) :
    best (table x (padded d)) = refBest x d := by
  refine Cert.TopPrefix.topK_extend (m := 4096) (n := 100000) (d := 352) (k := 100) _ (Host.negf (refMat x d))
    (Host.negf (table x (padded d))) _ _ (by norm_num) (fun r p => ?_) (fun r p q => ?_)
  · show -(table x (padded d) (ix2 r (Fin.castAdd 352 p))) = -(refMat x d (ix2 r p))
    rw [refMat_apply]
    show -(gap (fun k => x (ix2 r k)) (fun k => padded d (ix2 (Fin.castAdd 352 p) k))) = _
    simp only [padded_low]
  · show BitVec.ofBool (decide (-(refMat x d (ix2 r p)) < -(table x (padded d) (ix2 r (Fin.natAdd 100000 q))))) ≠ 1#1
    rw [refMat_apply]
    show BitVec.ofBool (decide (-(gap (fun k => x (ix2 r k)) (fun k => d (ix2 p k)))
      < -(gap (fun k => x (ix2 r k)) (fun k => padded d (ix2 (Fin.natAdd 100000 q) k))))) ≠ 1#1
    simp only [padded_high]
    rw [decide_eq_false (not_lt.mpr (EReal.neg_le_neg_iff.mpr (gap_le_pad _ _ (hx r) (hd p))))]
    decide

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed program runs, leaves its arguments unchanged and ends with every counter at zero. -/
theorem frame_p : Cert.quiescent_Kernel := fun m ρ _ => Cert.Kernel.Gen.frame m ρ

/-- The same of the program read over the extended reals. -/
theorem frame_pi : Cert.quiescent_KernelIdeal := fun m ρ _ => Cert.KernelIdeal.Gen.frame m ρ

/-- The same of the reference, which is host operations only and declares no semaphore. -/
theorem frame_ri : Cert.quiescent_ReferenceIdeal := fun m ρ _ =>
  (θ_run Cert.ReferenceIdeal.defs _ _).mono (fun r h => ⟨fun c => ⟨(h c).2.2.1, (h c).2.2.2⟩,
      Idealize.ShloMosaic.sem_eq_zero_of_no_sems (by decide) r.2⟩)
    (Cert.ReferenceIdeal.Value.run (F := Ideal) m ρ)

open Idealize.ShloMosaic.TcCoe Cert.Equation Cert.KernelIdeal.Dist in
/-- On bounded inputs the kernel's values and columns of the best hundred of every row are the reference's. -/
theorem value : Cert.algebraic_KernelIdeal_ReferenceIdeal_pre_bounded (hPre_bounded := pre_facts) :=
  fun m g m' g' hpre hagree => by
    have e (c : Dev Cert.KernelIdeal.nD) :
        best (result m c) = refBest (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := by
      rw [(hagree c).1, (hagree c).2]
      have := pre_facts
      exact best_eq _ _ (bounded_left _ _ (hpre c).1) (bounded_right _ _ (hpre c).2)
    refine ⟨fun c => Host.negf (best (result m c)).1, fun c => (best (result m c)).2, Cert.KernelIdeal.Dist.run m g, ?_⟩
    refine (θ_run Cert.ReferenceIdeal.defs _ _).mono (fun r h c => ?_) (Cert.ReferenceIdeal.Value.run (F := Ideal) m' g')
    refine ⟨(h c).1.trans ?_, (h c).2.1.trans ?_, (h c).2.2.1, (h c).2.2.2⟩
    · exact congrArg (fun b => Host.negf b.1) (e c).symm
    · exact congrArg Prod.snd (e c).symm

/-- The whole claim. The two runs under the precondition are the runs without it. -/
theorem claim : Cert.Claim := ⟨Cert.Kernel.Gen.facts, Cert.KernelIdeal.Gen.facts, Cert.ReferenceIdeal.Gen.facts,
  Cert.Equation.pre_facts, frame_p, frame_pi, fun m ρ _ => Cert.KernelIdeal.Gen.frame m ρ,
  frame_ri, fun m ρ _ => frame_ri m ρ trivial, trivial, value⟩

end Cert.Proof

end
